-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x224x224 : Shape := ⟨4, ![64, 3, 224, 224]⟩
abbrev S64x196 : Shape := ⟨2, ![64, 196]⟩
abbrev S16x16x3x768 : Shape := ⟨4, ![16, 16, 3, 768]⟩
abbrev S768 : Shape := ⟨1, ![768]⟩
abbrev S1x1x768 : Shape := ⟨3, ![1, 1, 768]⟩
abbrev S1x197x768 : Shape := ⟨3, ![1, 197, 768]⟩
abbrev S64x3x14x16x14x16 : Shape := ⟨6, ![64, 3, 14, 16, 14, 16]⟩
abbrev S64x14x14x16x16x3 : Shape := ⟨6, ![64, 14, 14, 16, 16, 3]⟩
abbrev S64x196x768 : Shape := ⟨3, ![64, 196, 768]⟩
abbrev S768x768 : Shape := ⟨2, ![768, 768]⟩
abbrev S1x196x768 : Shape := ⟨3, ![1, 196, 768]⟩
abbrev S196x768 : Shape := ⟨2, ![196, 768]⟩
abbrev S1x768 : Shape := ⟨2, ![1, 768]⟩
abbrev S64x1x196 : Shape := ⟨3, ![64, 1, 196]⟩
abbrev S64x196x1 : Shape := ⟨3, ![64, 196, 1]⟩
abbrev S64x50x768 : Shape := ⟨3, ![64, 50, 768]⟩
abbrev S4x1x196 : Shape := ⟨3, ![4, 1, 196]⟩
abbrev S4x196x1 : Shape := ⟨3, ![4, 196, 1]⟩
abbrev S4x196x768 : Shape := ⟨3, ![4, 196, 768]⟩
abbrev S4x50x768 : Shape := ⟨3, ![4, 50, 768]⟩
abbrev S4x196x196 : Shape := ⟨3, ![4, 196, 196]⟩
abbrev S4x196 : Shape := ⟨2, ![4, 196]⟩
abbrev S4x64x196 : Shape := ⟨3, ![4, 64, 196]⟩
abbrev S1x64x196 : Shape := ⟨3, ![1, 64, 196]⟩
abbrev S64x768 : Shape := ⟨2, ![64, 768]⟩
abbrev S256x768 : Shape := ⟨2, ![256, 768]⟩
abbrev S256x196 : Shape := ⟨2, ![256, 196]⟩
abbrev S49x768 : Shape := ⟨2, ![49, 768]⟩
abbrev S1x49x768 : Shape := ⟨3, ![1, 49, 768]⟩

abbrev nBuf : Space → Nat
  | .hbm => 27
  | .vmem => 17
  | .smem => 0
  | _ => 0

abbrev bufTy : (tb : Table) → Fin (tcTables nBuf tb) → BufTy
  | .hbm, ⟨0, _⟩ => ⟨S64x3x224x224, .f32⟩
  | .hbm, ⟨1, _⟩ => ⟨S64x196, .f32⟩
  | .hbm, ⟨2, _⟩ => ⟨S16x16x3x768, .f32⟩
  | .hbm, ⟨3, _⟩ => ⟨S768, .f32⟩
  | .hbm, ⟨4, _⟩ => ⟨S1x1x768, .f32⟩
  | .hbm, ⟨5, _⟩ => ⟨S1x197x768, .f32⟩
  | .hbm, ⟨6, _⟩ => ⟨S64x3x14x16x14x16, .f32⟩
  | .hbm, ⟨7, _⟩ => ⟨S64x14x14x16x16x3, .f32⟩
  | .hbm, ⟨8, _⟩ => ⟨S64x196x768, .f32⟩
  | .hbm, ⟨9, _⟩ => ⟨S64x196x768, .bf16⟩
  | .hbm, ⟨10, _⟩ => ⟨S768x768, .f32⟩
  | .hbm, ⟨11, _⟩ => ⟨S768x768, .bf16⟩
  | .hbm, ⟨12, _⟩ => ⟨S1x196x768, .f32⟩
  | .hbm, ⟨13, _⟩ => ⟨S196x768, .f32⟩
  | .hbm, ⟨14, _⟩ => ⟨S196x768, .bf16⟩
  | .hbm, ⟨15, _⟩ => ⟨S1x1x768, .f32⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S1x768, .bf16⟩
  | .hbm, ⟨20, _⟩ => ⟨S64x1x196, .f32⟩
  | .hbm, ⟨21, _⟩ => ⟨S64x196x1, .f32⟩
  | .hbm, ⟨22, _⟩ => ⟨S64x50x768, .f32⟩
  | .hbm, ⟨23, _⟩ => ⟨S64x1x196, .f32⟩
  | .hbm, ⟨24, _⟩ => ⟨S64x1x196, .i32⟩
  | .hbm, ⟨25, _⟩ => ⟨S64x196, .f32⟩
  | .hbm, ⟨26, _⟩ => ⟨S64x196, .i32⟩
  | .local _ .vmem, ⟨0, _⟩ => ⟨S4x1x196, .f32⟩
  | .local _ .vmem, ⟨1, _⟩ => ⟨S4x1x196, .f32⟩
  | .local _ .vmem, ⟨2, _⟩ => ⟨S4x196x1, .f32⟩
  | .local _ .vmem, ⟨3, _⟩ => ⟨S4x196x1, .f32⟩
  | .local _ .vmem, ⟨4, _⟩ => ⟨S4x196x768, .bf16⟩
  | .local _ .vmem, ⟨5, _⟩ => ⟨S4x196x768, .bf16⟩
  | .local _ .vmem, ⟨6, _⟩ => ⟨S768x768, .bf16⟩
  | .local _ .vmem, ⟨7, _⟩ => ⟨S196x768, .bf16⟩
  | .local _ .vmem, ⟨8, _⟩ => ⟨S1x768, .bf16⟩
  | .local _ .vmem, ⟨9, _⟩ => ⟨S1x768, .f32⟩
  | .local _ .vmem, ⟨10, _⟩ => ⟨S1x768, .f32⟩
  | .local _ .vmem, ⟨11, _⟩ => ⟨S4x50x768, .f32⟩
  | .local _ .vmem, ⟨12, _⟩ => ⟨S4x50x768, .f32⟩
  | .local _ .vmem, ⟨13, _⟩ => ⟨S4x1x196, .f32⟩
  | .local _ .vmem, ⟨14, _⟩ => ⟨S4x1x196, .f32⟩
  | .local _ .vmem, ⟨15, _⟩ => ⟨S4x1x196, .i32⟩
  | .local _ .vmem, ⟨16, _⟩ => ⟨S4x1x196, .i32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x196x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x196x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S196x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x50x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x196 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1x196 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S64x3x224x224 : Shape := ⟨4, ![64, 3, 224, 224]⟩
abbrev S64x196 : Shape := ⟨2, ![64, 196]⟩
abbrev S16x16x3x768 : Shape := ⟨4, ![16, 16, 3, 768]⟩
abbrev S768 : Shape := ⟨1, ![768]⟩
abbrev S1x1x768 : Shape := ⟨3, ![1, 1, 768]⟩
abbrev S1x197x768 : Shape := ⟨3, ![1, 197, 768]⟩
abbrev S64x224x224x3 : Shape := ⟨4, ![64, 224, 224, 3]⟩
abbrev S64x14x16x14x16x3 : Shape := ⟨6, ![64, 14, 16, 14, 16, 3]⟩
abbrev S64x14x14x16x16x3 : Shape := ⟨6, ![64, 14, 14, 16, 16, 3]⟩
abbrev S64x196x768 : Shape := ⟨3, ![64, 196, 768]⟩
abbrev S768x768 : Shape := ⟨2, ![768, 768]⟩
abbrev S1x196x768 : Shape := ⟨3, ![1, 196, 768]⟩
abbrev S64x49 : Shape := ⟨2, ![64, 49]⟩
abbrev S64x49x1 : Shape := ⟨3, ![64, 49, 1]⟩
abbrev S_ : Shape := ⟨0, ![]⟩
abbrev S1 : Shape := ⟨1, ![1]⟩
abbrev S1x1x1 : Shape := ⟨3, ![1, 1, 1]⟩
abbrev S64x49x768 : Shape := ⟨3, ![64, 49, 768]⟩
abbrev S64x147 : Shape := ⟨2, ![64, 147]⟩
abbrev S64x196x1 : Shape := ⟨3, ![64, 196, 1]⟩
abbrev S1x1x1x1x1x768 : Shape := ⟨6, ![1, 1, 1, 1, 1, 768]⟩
abbrev S64x1x1x1x1x768 : Shape := ⟨6, ![64, 1, 1, 1, 1, 768]⟩
abbrev S64x1x768 : Shape := ⟨3, ![64, 1, 768]⟩
abbrev S64x50x768 : Shape := ⟨3, ![64, 50, 768]⟩

abbrev nBuf : Space → Nat
  | .hbm => 81
  | .vmem => 0
  | .smem => 0
  | _ => 0

abbrev bufTy : (tb : Table) → Fin (tcTables nBuf tb) → BufTy
  | .hbm, ⟨0, _⟩ => ⟨S64x3x224x224, .f32⟩
  | .hbm, ⟨1, _⟩ => ⟨S64x196, .f32⟩
  | .hbm, ⟨2, _⟩ => ⟨S16x16x3x768, .f32⟩
  | .hbm, ⟨3, _⟩ => ⟨S768, .f32⟩
  | .hbm, ⟨4, _⟩ => ⟨S1x1x768, .f32⟩
  | .hbm, ⟨5, _⟩ => ⟨S1x197x768, .f32⟩
  | .hbm, ⟨6, _⟩ => ⟨S64x224x224x3, .f32⟩
  | .hbm, ⟨7, _⟩ => ⟨S64x14x16x14x16x3, .f32⟩
  | .hbm, ⟨8, _⟩ => ⟨S64x14x14x16x16x3, .f32⟩
  | .hbm, ⟨9, _⟩ => ⟨S64x196x768, .f32⟩
  | .hbm, ⟨10, _⟩ => ⟨S768x768, .f32⟩
  | .hbm, ⟨11, _⟩ => ⟨S64x196x768, .f32⟩
  | .hbm, ⟨12, _⟩ => ⟨S1x1x768, .f32⟩
  | .hbm, ⟨13, _⟩ => ⟨S64x196x768, .f32⟩
  | .hbm, ⟨14, _⟩ => ⟨S64x196x768, .f32⟩
  | .hbm, ⟨15, _⟩ => ⟨S1x196x768, .f32⟩
  | .hbm, ⟨16, _⟩ => ⟨S64x196x768, .f32⟩
  | .hbm, ⟨17, _⟩ => ⟨S64x196x768, .f32⟩
  | .hbm, ⟨18, _⟩ => ⟨S64x196, .i32⟩
  | .hbm, ⟨19, _⟩ => ⟨S64x196, .f32⟩
  | .hbm, ⟨20, _⟩ => ⟨S64x196, .i32⟩
  | .hbm, ⟨21, _⟩ => ⟨S64x196, .i32⟩
  | .hbm, ⟨22, _⟩ => ⟨S64x196, .i32⟩
  | .hbm, ⟨23, _⟩ => ⟨S64x196, .i32⟩
  | .hbm, ⟨24, _⟩ => ⟨S64x49, .i32⟩
  | .hbm, ⟨25, _⟩ => ⟨S64x49x1, .i32⟩
  | .hbm, ⟨26, _⟩ => ⟨S_, .i32⟩
  | .hbm, ⟨27, _⟩ => ⟨S64x49x1, .i32⟩
  | .hbm, ⟨28, _⟩ => ⟨S64x49x1, .i1⟩
  | .hbm, ⟨29, _⟩ => ⟨S_, .i32⟩
  | .hbm, ⟨30, _⟩ => ⟨S64x49x1, .i32⟩
  | .hbm, ⟨31, _⟩ => ⟨S64x49x1, .i32⟩
  | .hbm, ⟨32, _⟩ => ⟨S64x49x1, .i32⟩
  | .hbm, ⟨33, _⟩ => ⟨S1, .i32⟩
  | .hbm, ⟨34, _⟩ => ⟨S_, .i32⟩
  | .hbm, ⟨35, _⟩ => ⟨S64x49x1, .i32⟩
  | .hbm, ⟨36, _⟩ => ⟨S64x49x1, .i1⟩
  | .hbm, ⟨37, _⟩ => ⟨S1x1x1, .i32⟩
  | .hbm, ⟨38, _⟩ => ⟨S64x49x1, .i32⟩
  | .hbm, ⟨39, _⟩ => ⟨S64x49x1, .i1⟩
  | .hbm, ⟨40, _⟩ => ⟨S64x49x1, .i1⟩
  | .hbm, ⟨41, _⟩ => ⟨S_, .i1⟩
  | .hbm, ⟨42, _⟩ => ⟨S64x49, .i1⟩
  | .hbm, ⟨43, _⟩ => ⟨S64x49x768, .f32⟩
  | .hbm, ⟨44, _⟩ => ⟨S64x49x768, .i1⟩
  | .hbm, ⟨45, _⟩ => ⟨S_, .f32⟩
  | .hbm, ⟨46, _⟩ => ⟨S64x49x768, .f32⟩
  | .hbm, ⟨47, _⟩ => ⟨S64x49x768, .f32⟩
  | .hbm, ⟨48, _⟩ => ⟨S_, .f32⟩
  | .hbm, ⟨49, _⟩ => ⟨S64x49, .f32⟩
  | .hbm, ⟨50, _⟩ => ⟨S_, .f32⟩
  | .hbm, ⟨51, _⟩ => ⟨S64x147, .f32⟩
  | .hbm, ⟨52, _⟩ => ⟨S64x196, .f32⟩
  | .hbm, ⟨53, _⟩ => ⟨S_, .i32⟩
  | .hbm, ⟨54, _⟩ => ⟨S64x196, .i32⟩
  | .hbm, ⟨55, _⟩ => ⟨S64x196, .i1⟩
  | .hbm, ⟨56, _⟩ => ⟨S_, .i32⟩
  | .hbm, ⟨57, _⟩ => ⟨S64x196, .i32⟩
  | .hbm, ⟨58, _⟩ => ⟨S64x196, .i32⟩
  | .hbm, ⟨59, _⟩ => ⟨S64x196, .i32⟩
  | .hbm, ⟨60, _⟩ => ⟨S64x196x1, .i32⟩
  | .hbm, ⟨61, _⟩ => ⟨S1, .i32⟩
  | .hbm, ⟨62, _⟩ => ⟨S_, .i32⟩
  | .hbm, ⟨63, _⟩ => ⟨S64x196x1, .i32⟩
  | .hbm, ⟨64, _⟩ => ⟨S64x196x1, .i1⟩
  | .hbm, ⟨65, _⟩ => ⟨S1x1x1, .i32⟩
  | .hbm, ⟨66, _⟩ => ⟨S64x196x1, .i32⟩
  | .hbm, ⟨67, _⟩ => ⟨S64x196x1, .i1⟩
  | .hbm, ⟨68, _⟩ => ⟨S64x196x1, .i1⟩
  | .hbm, ⟨69, _⟩ => ⟨S_, .i1⟩
  | .hbm, ⟨70, _⟩ => ⟨S64x196, .i1⟩
  | .hbm, ⟨71, _⟩ => ⟨S64x196, .f32⟩
  | .hbm, ⟨72, _⟩ => ⟨S_, .f32⟩
  | .hbm, ⟨73, _⟩ => ⟨S64x196, .f32⟩
  | .hbm, ⟨74, _⟩ => ⟨S64x196, .f32⟩
  | .hbm, ⟨75, _⟩ => ⟨S1x1x768, .f32⟩
  | .hbm, ⟨76, _⟩ => ⟨S1x1x768, .f32⟩
  | .hbm, ⟨77, _⟩ => ⟨S1x1x1x1x1x768, .f32⟩
  | .hbm, ⟨78, _⟩ => ⟨S64x1x1x1x1x768, .f32⟩
  | .hbm, ⟨79, _⟩ => ⟨S64x1x768, .f32⟩
  | .hbm, ⟨80, _⟩ => ⟨S64x50x768, .f32⟩
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1_0 : Ref sig .tc := ⟨.hbm, 19, rfl⟩
abbrev main_v12 : Ref sig .tc := ⟨.hbm, 20, rfl⟩
abbrev main_call1_v0 : Ref sig .tc := ⟨.hbm, 21, rfl⟩
abbrev main_call1_v1_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call2_c : Ref sig .tc := ⟨.hbm, 26, rfl⟩
abbrev main_call2_v0 : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_c_1 : Ref sig .tc := ⟨.hbm, 33, rfl⟩
abbrev main_call2_c_2 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_c_3 : Ref sig .tc := ⟨.hbm, 41, rfl⟩
abbrev main_call2_v11 : Ref sig .tc := ⟨.hbm, 42, rfl⟩
abbrev main_call2_v12 : Ref sig .tc := ⟨.hbm, 43, rfl⟩
abbrev main_call2_v13 : Ref sig .tc := ⟨.hbm, 44, rfl⟩
abbrev main_call2_cst : Ref sig .tc := ⟨.hbm, 45, rfl⟩
abbrev main_call2_v14 : Ref sig .tc := ⟨.hbm, 46, rfl⟩
abbrev main_v16 : Ref sig .tc := ⟨.hbm, 47, rfl⟩
abbrev main_cst : Ref sig .tc := ⟨.hbm, 48, rfl⟩
abbrev main_v17 : Ref sig .tc := ⟨.hbm, 49, rfl⟩
abbrev main_cst_0 : Ref sig .tc := ⟨.hbm, 50, rfl⟩
abbrev main_v18 : Ref sig .tc := ⟨.hbm, 51, rfl⟩
abbrev main_v19 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_cst : Ref sig .tc := ⟨.hbm, 72, rfl⟩
abbrev main_call3_v14 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩

abbrev nD : Nat := 1
abbrev τ : Topo := Topo.v7x

variable {F : FTy → Type} [FloatOps F]
-- ==== Proof.Rank.lean ====
module

public import Idealize.ShloMosaic.Lib.SortFacts
public import Mathlib.Data.Prod.Lex
public import Mathlib.Order.Fin.Basic
public import Mathlib.Data.Fintype.Card

/-! A stable sort and the counting rank.

The rank of a position counts the positions whose key is smaller, ties broken by the position itself.
A stable sort puts at place `k` the position of rank `k`, and sorting the sorting permutation once more
gives every position its rank. -/

@[expose] public section

noncomputable section

open Idealize.ShloMosaic

namespace Cert.Rank

variable {α : Type} [LinearOrder α] {n : Nat}

/-- How many positions come before `j`: a smaller key, or an equal key at a smaller position. -/
def rank (x : Fin n → α) (j : Fin n) : Nat :=
  (Finset.univ.filter fun i => x i < x j ∨ (x i = x j ∧ i < j)).card

/-- The order of the positions by key, ties by the position. -/
def lex (x : Fin n → α) (i j : Fin n) : Bool := decide (toLex (x i, i) < toLex (x j, j))

theorem lex_iff (x : Fin n → α) (i j : Fin n) : lex x i j = true ↔ x i < x j ∨ (x i = x j ∧ i < j) := by
  unfold lex
  rw [decide_eq_true_iff, Prod.Lex.toLex_lt_toLex]

/-- Over a list of increasing positions a stable sort by the keys alone is the sort by keys and positions. -/
theorem stableSort_lex (x : Fin n → α) (before : Fin n → Fin n → Bool) (hb : ∀ i j, before i j = true ↔ x i < x j)
    (l : List (Fin n)) (hl : l.Pairwise (· < ·)) : stableSort before l = stableSort (lex x) l := by
  induction l with
  | nil => rfl
  | cons a l ih =>
    rw [List.pairwise_cons] at hl
    unfold stableSort
    rw [ih hl.2]
    refine insertBefore_congr _ _ _ _ fun b hbm => ?_
    have hm : b ∈ l := (perm_stableSort (lex x) l).mem_iff.mp hbm
    have hab : a < b := hl.1 b hm
    rw [Bool.eq_iff_iff, hb, lex_iff]
    constructor
    · exact Or.inl
    · rintro (h | ⟨_, h⟩)
      · exact h
      · exact absurd h (not_lt.mpr hab.le)

theorem sortedFrom_lex (x : Fin n → α) (before : Fin n → Fin n → Bool) (hb : ∀ i j, before i j = true ↔ x i < x j) :
    sortedFrom before = sortedFrom (lex x) := by
  funext k
  unfold sortedFrom
  have h : sortPositions n before = sortPositions n (lex x) :=
    stableSort_lex x before hb _ (List.pairwise_lt_finRange n)
  rw [List.get_of_eq h]
  rfl

/-- The sorted positions increase strictly in the order by keys and positions. -/
theorem lex_sortedFrom (x : Fin n → α) {i j : Fin n} (hij : i < j) :
    lex x (sortedFrom (lex x) i) (sortedFrom (lex x) j) = true := by
  have h := sortedFrom_noInversion (lex x) (lex x)
    (fun a b h => by
      unfold lex at h ⊢
      rw [decide_eq_true_iff] at h
      rw [decide_eq_false_iff_not]
      exact not_lt.mpr h.le)
    (fun _ _ h => h)
    (fun a b c h₁ h₂ => by
      unfold lex at *
      rw [decide_eq_false_iff_not, not_lt] at *
      exact h₂.trans h₁) i j hij
  have hne : sortedFrom (lex x) i ≠ sortedFrom (lex x) j := fun e => hij.ne (sortedFrom_injective _ e)
  unfold lex at h ⊢
  rw [decide_eq_false_iff_not, not_lt] at h
  rw [decide_eq_true_iff]
  refine lt_of_le_of_ne h fun e => hne ?_
  exact congrArg (fun p : Lex (α × Fin n) => (ofLex p).2) e

theorem lex_sortedFrom_iff (x : Fin n → α) (i j : Fin n) :
    lex x (sortedFrom (lex x) i) (sortedFrom (lex x) j) = true ↔ i < j := by
  refine ⟨fun h => ?_, lex_sortedFrom x⟩
  by_contra hn
  rcases eq_or_lt_of_le (not_lt.mp hn) with e | hlt
  · subst e
    unfold lex at h
    rw [decide_eq_true_iff] at h
    exact lt_irrefl _ h
  · have h' := lex_sortedFrom x hlt
    unfold lex at h h'
    rw [decide_eq_true_iff] at h h'
    exact lt_asymm h h'

/-- The position a stable sort puts at place `k` has rank `k`. -/
theorem rank_sortedFrom (x : Fin n → α) (before : Fin n → Fin n → Bool) (hb : ∀ i j, before i j = true ↔ x i < x j)
    (k : Fin n) : rank x (sortedFrom before k) = k.val := by
  rw [sortedFrom_lex x before hb]
  have h : (Finset.univ.filter fun i => x i < x (sortedFrom (lex x) k) ∨
        (x i = x (sortedFrom (lex x) k) ∧ i < sortedFrom (lex x) k))
      = (Finset.univ.filter fun l : Fin n => l < k).map ⟨sortedFrom (lex x), sortedFrom_injective _⟩ := by
    ext i
    obtain ⟨l, rfl⟩ := sortedFrom_surjective (lex x) i
    rw [Finset.mem_filter, ← lex_iff, lex_sortedFrom_iff, Finset.mem_map]
    constructor
    · rintro ⟨_, h⟩
      exact ⟨l, Finset.mem_filter.mpr ⟨Finset.mem_univ _, h⟩, rfl⟩
    · rintro ⟨l', hl', e⟩
      have e' : l' = l := sortedFrom_injective _ e
      subst e'
      exact ⟨Finset.mem_univ _, (Finset.mem_filter.mp hl').2⟩
  unfold rank
  rw [h, Finset.card_map, Finset.filter_gt_eq_Iio, Fin.card_Iio]

theorem rank_lt (x : Fin n → α) (j : Fin n) : rank x j < n := by
  obtain ⟨k, rfl⟩ := sortedFrom_surjective (lex x) j
  have h := rank_sortedFrom x (fun i j => decide (x i < x j)) (fun i j => by simp) k
  rw [sortedFrom_lex x (fun i j => decide (x i < x j)) (fun i j => by simp)] at h
  rw [h]
  exact k.isLt

/-- A position has rank `k` exactly when the stable sort puts it at place `k`. -/
theorem rank_eq_iff (x : Fin n → α) (before : Fin n → Fin n → Bool) (hb : ∀ i j, before i j = true ↔ x i < x j)
    (j k : Fin n) : rank x j = k.val ↔ j = sortedFrom before k := by
  obtain ⟨l, rfl⟩ := sortedFrom_surjective before j
  rw [rank_sortedFrom x before hb]
  constructor
  · intro h
    rw [Fin.ext h]
  · intro h
    rw [sortedFrom_injective _ h]

/-- Sorting the sorting permutation gives the rank: the argsort of the argsort. -/
theorem sortedFrom_sortedFrom (x : Fin n → α) (before before' : Fin n → Fin n → Bool)
    (hb : ∀ i j, before i j = true ↔ x i < x j)
    (hb' : ∀ i j, before' i j = true ↔ (sortedFrom before i).val < (sortedFrom before j).val) (j : Fin n) :
    (sortedFrom before' j).val = rank x j := by
  obtain ⟨k, rfl⟩ := sortedFrom_surjective before j
  rw [rank_sortedFrom x before hb]
  have h : rank (fun i => (sortedFrom before i).val) k = (sortedFrom before k).val := by
    unfold rank
    have e : (Finset.univ.filter fun i => (sortedFrom before i).val < (sortedFrom before k).val ∨
          ((sortedFrom before i).val = (sortedFrom before k).val ∧ i < k))
        = Finset.univ.filter fun i => sortedFrom before i < sortedFrom before k := by
      ext i
      rw [Finset.mem_filter, Finset.mem_filter]
      refine and_congr_right fun _ => ⟨?_, Or.inl⟩
      rintro (h | ⟨h, hik⟩)
      · exact h
      · exact absurd (sortedFrom_injective _ (Fin.ext h)) hik.ne
    rw [e]
    have e' : (Finset.univ.filter fun i => sortedFrom before i < sortedFrom before k).map
          ⟨sortedFrom before, sortedFrom_injective _⟩
        = Finset.univ.filter fun l : Fin n => l < sortedFrom before k := by
      ext l
      obtain ⟨i, rfl⟩ := sortedFrom_surjective before l
      rw [Finset.mem_map, Finset.mem_filter]
      constructor
      · rintro ⟨i', hi', e⟩
        have e'' : i' = i := sortedFrom_injective _ e
        subst e''
        exact ⟨Finset.mem_univ _, (Finset.mem_filter.mp hi').2⟩
      · rintro ⟨_, h⟩
        exact ⟨i, Finset.mem_filter.mpr ⟨Finset.mem_univ _, h⟩, rfl⟩
    rw [← Finset.card_map, e', Finset.filter_gt_eq_Iio, Fin.card_Iio]
  have h' := (rank_eq_iff (fun i => (sortedFrom before i).val) before' hb' k (sortedFrom before k)).mp h
  rw [← h']

end Cert.Rank
-- ==== Proof.Block.lean ====
module

public import proofs.«01_k».proof.Proof.Gen.KernelIdeal.Skeleton
public import proofs.«01_k».proof.Proof.Rank
public import Idealize.ShloMosaic.Lib.Pointwise
public import Idealize.ShloMosaic.Lib.IndicatorCount
public import Idealize.ShloMosaic.Lib.WordCmp

@[expose] public section
set_option maxRecDepth 16384

noncomputable section

open Idealize.ShloMosaic Idealize.ShloMosaic.TcCoe Idealize.SL.Sem
open Cert.KernelIdeal Cert.KernelIdeal.Gen

namespace Cert.Block

/-- Block row `s` of the noise. -/
abbrev row (r : FVec Ideal S4x1x196 .f32) (s : Fin 4) : Fin 196 → EReal := fun i => r (ix3 s 0 i)

/-- The word that says whether position `i` with key `a` comes before position `j` with key `b`. -/
theorem before_word_eq_one (a b : EReal) (i j : Fin 196) :
    IntOp.ori (BitVec.ofBool (decide (a < b))) (IntOp.andi (BitVec.ofBool (decide (a = b)))
      (IntOp.cmpi CmpIPredicate.slt (BitVec.ofNat 32 ↑i) (BitVec.ofNat 32 ↑j))) = 1#1
    ↔ a < b ∨ (a = b ∧ i < j) := by
  have hi := i.isLt
  have hj := j.isLt
  have h : IntOp.cmpi CmpIPredicate.slt (BitVec.ofNat 32 ↑i) (BitVec.ofNat 32 ↑j)
      = BitVec.ofBool (decide (i.val < j.val)) := by
    word_cmp
  rw [h]
  by_cases h1 : a < b <;> by_cases h2 : a = b <;> by_cases h3 : i < j <;>
    simp [h1, h2, h3, IntOp.ori, IntOp.andi]

/-- The rank the body counts: entry `(s, j)` is the rank of position `j` in row `s`. -/
theorem pay1_at (r : FVec Ideal S4x1x196 .f32) (q : FVec Ideal S4x196x1 .f32) (s : Fin 4) (j : Fin 196)
    (hq : ∀ j, q (ix3 s j 0) = r (ix3 s 0 j)) :
    k0_pay1 (F := Ideal) r q (ix2 s j) = BitVec.ofNat 32 (Cert.Rank.rank (row r s) j) := by
  pointwise [k0_pay1]
  refine (IndicatorCount.fold_addi_setWidth_eq_card _ _).trans (congrArg _ (congrArg Finset.card ?_))
  ext i
  rw [Finset.mem_filter, Finset.mem_filter]
  refine and_congr_right fun _ => (before_word_eq_one _ _ i j).trans ?_
  rw [hq]

/-- The ids the body stores. -/
theorem pay2_at (r : FVec Ideal S4x1x196 .f32) (q : FVec Ideal S4x196x1 .f32) (s : Fin 4) (j : Fin 196)
    (hq : ∀ j, q (ix3 s j 0) = r (ix3 s 0 j)) :
    k0_pay2 (F := Ideal) r q (ix3 s 0 j) = BitVec.ofNat 32 (Cert.Rank.rank (row r s) j) := by
  pointwise [k0_pay2]
  exact pay1_at r q s j hq

/-- A decided condition as a word, converted to a number. -/
theorem sitofp_cond (p : Prop) [Decidable p] (φ : FTy) :
    (FloatOps.sitofp (F := Ideal) φ ((BitVec.ofBool (decide p)).setWidth 32) : EReal) = if p then 1 else 0 := by
  show (((((BitVec.ofBool (decide p)).setWidth 32).toInt : ℝ)) : EReal) = _
  by_cases h : p
  · simp [h]
  · simp [h]

/-- The mask the body stores: zero on the kept ranks. -/
theorem pay3_at (r : FVec Ideal S4x1x196 .f32) (q : FVec Ideal S4x196x1 .f32) (s : Fin 4) (j : Fin 196)
    (hq : ∀ j, q (ix3 s j 0) = r (ix3 s 0 j)) :
    (k0_pay3 (F := Ideal) r q (ix3 s 0 j) : EReal) = if Cert.Rank.rank (row r s) j < 49 then 0 else 1 := by
  pointwise [k0_pay3]
  rw [pay1_at r q s j hq]
  have hb := Cert.Rank.rank_lt (row r s) j
  generalize Cert.Rank.rank (row r s) j = a at hb ⊢
  have h : IntOp.cmpi CmpIPredicate.sge (BitVec.ofNat 32 a) 49#32 = BitVec.ofBool (decide (49 ≤ a)) := by
    word_cmp
  rw [h]
  refine (sitofp_cond (49 ≤ a) .f32).trans ?_
  by_cases h' : a < 49
  · rw [if_pos h', if_neg (by omega)]
  · rw [if_neg h', if_pos (by omega)]

/-- The one-hot matrix: entry `(s, k, p)` is one exactly when `p` has rank `k`. -/
theorem pay4_at (r : FVec Ideal S4x1x196 .f32) (q : FVec Ideal S4x196x1 .f32) (s : Fin 4) (k : Fin 64) (p : Fin 196)
    (hq : ∀ j, q (ix3 s j 0) = r (ix3 s 0 j)) :
    (k0_pay4 (F := Ideal) r q (ix3 s k p) : EReal) = if Cert.Rank.rank (row r s) p = k.val then 1 else 0 := by
  pointwise [k0_pay4]
  rw [pay1_at r q s p hq]
  have hb := Cert.Rank.rank_lt (row r s) p
  have hk := k.isLt
  generalize Cert.Rank.rank (row r s) p = a at hb ⊢
  have h : IntOp.cmpi CmpIPredicate.eq (BitVec.ofNat 32 k.val) (BitVec.ofNat 32 a) = BitVec.ofBool (decide (k.val = a)) := by
    word_cmp
  rw [h]
  refine (sitofp_cond (k.val = a) .f32).trans ?_
  exact if_congr eq_comm rfl rfl

/-- Four pieces of 64 rows stacked, read at row `k` of piece `s`. -/
theorem stack_at (f : Fin 4 → Fin 64 → EReal) (s : Fin 4) (k : Fin 64) :
    (if h : 64 * s.val + k.val < 64 then f 0 ⟨64 * s.val + k.val, h⟩
      else if h : 64 * s.val + k.val - 64 < 64 then f 1 ⟨64 * s.val + k.val - 64, h⟩
      else if h : 64 * s.val + k.val - 64 - 64 < 64 then f 2 ⟨64 * s.val + k.val - 64 - 64, h⟩
      else f 3 ⟨64 * s.val + k.val - 64 - 64 - 64, by omega⟩) = f s k := by
  have hk := k.isLt
  have e : ∀ (s' : Fin 4) (k' : Fin 64), s'.val = s.val → k'.val = k.val → f s' k' = f s k :=
    fun s' k' hs hk => by rw [Fin.ext hs, Fin.ext hk]
  split
  · exact e _ _ (by simp only [Fin.val_zero]; omega) (by dsimp only; omega)
  · split
    · exact e _ _ (by simp only [Fin.val_one]; omega) (by dsimp only; omega)
    · split
      · exact e _ _ (by simp only [Fin.val_two]; omega) (by dsimp only; omega)
      · exact e _ _ (by show 3 = s.val; omega) (by dsimp only; omega)

/-- The projection of the selected rows plus the selected position and bias rows, as the body's products give it. -/
theorem pay8_at (r : FVec Ideal S4x1x196 .f32) (q : FVec Ideal S4x196x1 .f32)
    (x : FVec Ideal S4x196x768 .bf16) (pos : FVec Ideal S196x768 .bf16)
   (b : FVec Ideal S1x768 .bf16) (W : FVec Ideal S768x768 .bf16) (s : Fin 4) (k : Fin 64) (h : Fin 768) :
    k0_pay8 (F := Ideal) (k0_pay4 r q) (k0_pay5 x) (k0_pay6 r q) (k0_pay7 x) pos b W (ix2 ⟨64 * s + k, by omega⟩ h) =
     (∑ c : Fin 768, (∑ p : Fin 196, k0_pay4 (F := Ideal) r q (ix3 s k p) * x (ix3 s p c)) * W (ix2 c h)) +
      (∑ p : Fin 196, k0_pay4 (F := Ideal) r q (ix3 s k p) * (pos (ix2 p h) + b (ix2 0 h))) := by
  have hk := k.isLt
  pointwise [k0_pay8, k0_pay6, k0_pay7, k0_pay5]
  refine congrArg₂ (· + ·) (Finset.sum_congr rfl fun c _ => congrArg (· * W (ix2 c h)) ?_) rfl
  exact stack_at (fun s k => ∑ p : Fin 196, k0_pay4 (F := Ideal) r q (ix3 s k p) * x (ix3 s p c)) s k

/-- The row the body computes for kept place `k` of block row `s`: the position `σ` of rank `k`, projected,
    plus its position row and the bias. -/
theorem emb_at (r : FVec Ideal S4x1x196 .f32) (q : FVec Ideal S4x196x1 .f32)
    (x : FVec Ideal S4x196x768 .bf16) (pos : FVec Ideal S196x768 .bf16)
    (b : FVec Ideal S1x768 .bf16) (W : FVec Ideal S768x768 .bf16) (s : Fin 4) (k : Fin 64) (h : Fin 768)
    (hq : ∀ j, q (ix3 s j 0) = r (ix3 s 0 j)) (p₀ : Fin 196)
    (hp : ∀ p, Cert.Rank.rank (row r s) p = k.val ↔ p = p₀) :
    k0_pay8 (F := Ideal) (k0_pay4 r q) (k0_pay5 x) (k0_pay6 r q) (k0_pay7 x) pos b W
        (ix2 ⟨64 * s.val + k.val, by omega⟩ h)
      = (∑ c : Fin 768, x (ix3 s p₀ c) * W (ix2 c h)) + (pos (ix2 p₀ h) + b (ix2 0 h)) := by
  have hot : ∀ f : Fin 196 → EReal, (∑ p : Fin 196, (k0_pay4 (F := Ideal) r q (ix3 s k p) : EReal) * f p) = f p₀ := by
    intro f
    rw [Finset.sum_eq_single p₀]
    · rw [pay4_at r q s k p₀ hq, if_pos ((hp p₀).mpr rfl), one_mul]
    · intro p _ hne
      rw [pay4_at r q s k p hq, if_neg (fun e => hne ((hp p).mp e)), zero_mul]
    · exact fun hn => absurd (Finset.mem_univ _) hn
  rw [pay8_at]
  refine congrArg₂ (· + ·) (Finset.sum_congr rfl fun c _ => congrArg (· * W (ix2 c h)) ?_) ?_
  · exact hot fun p => x (ix3 s p c)
  · exact hot fun p => pos (ix2 p h) + b (ix2 0 h)

end Cert.Block
-- ==== Proof.Spec.lean ====
module

public import proofs.«01_k».proof.Proof.Rank
public import Idealize.ShloMosaic.Lib.Pointwise

/-! What both programs compute, over the argument arrays: the kept positions, the embedded rows, the mask and the ids. -/

@[expose] public section
set_option maxRecDepth 16384

noncomputable section

open Idealize.ShloMosaic

namespace Cert.Spec

/-- The position a stable sort of the keys puts at place `k`. -/
def sel (x : Fin 196 → EReal) (k : Fin 196) : Fin 196 := sortedFrom (Cert.Rank.lex x) k

theorem rank_eq_iff_sel (x : Fin 196 → EReal) (j k : Fin 196) : Cert.Rank.rank x j = k.val ↔ j = sel x k := by
  have hb : ∀ i j : Fin 196, decide (x i < x j) = true ↔ x i < x j := fun i j => decide_eq_true_iff
  rw [Cert.Rank.rank_eq_iff x (fun i j => decide (x i < x j)) hb, Cert.Rank.sortedFrom_lex x _ hb]
  rfl

/-- Batch row `b` of the noise. -/
abbrev nrow (nz : FVec Ideal ⟨2, ![64, 196]⟩ .f32) (b : Fin 64) : Fin 196 → EReal := fun i => nz (ix2 b i)

/-- Lane `c` of patch `p` of image `b`: pixel row, pixel column, channel, the channel fastest. -/
def patch (X : FVec Ideal ⟨4, ![64, 3, 224, 224]⟩ .f32) (b : Fin 64) (p : Fin 196) (c : Fin 768) : EReal :=
  X (ix4 b ⟨c.val % 3, by omega⟩ ⟨p.val / 14 * 16 + c.val / 48, by omega⟩ ⟨p.val % 14 * 16 + c.val / 3 % 16, by omega⟩)

/-- The projection's matrix. -/
def weight (W : FVec Ideal ⟨4, ![16, 16, 3, 768]⟩ .f32) (c h : Fin 768) : EReal :=
  W (ix4 ⟨c.val / 48, by omega⟩ ⟨c.val / 3 % 16, by omega⟩ ⟨c.val % 3, by omega⟩ h)

/-- Row `k` of the output: the class row first, then the embedded patch of rank `k - 1`. -/
def out (X : FVec Ideal ⟨4, ![64, 3, 224, 224]⟩ .f32) (nz : FVec Ideal ⟨2, ![64, 196]⟩ .f32)
    (W : FVec Ideal ⟨4, ![16, 16, 3, 768]⟩ .f32) (bias : FVec Ideal ⟨1, ![768]⟩ .f32)
    (cls : FVec Ideal ⟨3, ![1, 1, 768]⟩ .f32) (pos : FVec Ideal ⟨3, ![1, 197, 768]⟩ .f32)
    (b : Fin 64) (k : Fin 50) (h : Fin 768) : EReal :=
  if k.val = 0 then cls (ix3 0 0 h) + pos (ix3 0 0 h)
  else
    (∑ c : Fin 768, patch X b (sel (nrow nz b) ⟨k.val - 1, by omega⟩) c * weight W c h)
      + (pos (ix3 0 ⟨1 + (sel (nrow nz b) ⟨k.val - 1, by omega⟩).val, by omega⟩ h) + bias (ix1 h))

/-- The mask: zero where the rank is kept. -/
def mask (nz : FVec Ideal ⟨2, ![64, 196]⟩ .f32) (b : Fin 64) (j : Fin 196) : EReal :=
  if Cert.Rank.rank (nrow nz b) j < 49 then 0 else 1

/-- The restoring ids: the ranks. -/
def ids (nz : FVec Ideal ⟨2, ![64, 196]⟩ .f32) (b : Fin 64) (j : Fin 196) : BitVec 32 :=
  BitVec.ofNat 32 (Cert.Rank.rank (nrow nz b) j)

end Cert.Spec
-- ==== Proof.Arrays.lean ====
module

public import proofs.«01_k».proof.Proof.Gen.KernelIdeal.Frame
public import proofs.«01_k».proof.Proof.Block
public import proofs.«01_k».proof.Proof.Spec
public import Idealize.ShloMosaic.Lib.Pipeline.ValueKit

/-! The arrays the idealized kernel leaves: what the region's windows read, and each result array as the
specification's function of the arguments. -/

@[expose] public section
set_option maxRecDepth 16384

noncomputable section

open Idealize.ShloMosaic Idealize.ShloMosaic.TcCoe Idealize.SL.Sem
open Idealize.ShloMosaic.Pipeline (Dat)
open Cert.KernelIdeal Cert.KernelIdeal.Gen
open Cert.Spec (sel nrow patch weight out mask ids)

namespace Cert.Arrays

variable (m : (ℓ : Loc nD τ sig) → Buf (Elt Ideal) ℓ)

/-- Every window's block index at every point. -/
theorem idx : ∀ t : Fin cfg0.N, win0_0.index t = ![t.val, 0, 0] ∧ win0_1.index t = ![t.val, 0, 0]
    ∧ win0_2.index t = ![t.val, 0, 0] ∧ win0_3.index t = ![0, 0] ∧ win0_4.index t = ![0, 0] ∧ win0_5.index t = ![0, 0]
    ∧ win0_6.index t = ![0, 0] ∧ win0_7.index t = ![0, 0] ∧ win0_8.index t = ![t.val, 0, 0]
    ∧ win0_9.index t = ![t.val, 0, 0] ∧ win0_10.index t = ![t.val, 0, 0] :=
  (by decide +kernel : ∀ t : Fin grid0.N, _)

abbrev aX (c : Dev nD) : FVec Ideal S64x3x224x224 .f32 := m ((c : Thread nD τ).loc main_arg0)
abbrev aN (c : Dev nD) : FVec Ideal S64x196 .f32 := m ((c : Thread nD τ).loc main_arg1)
abbrev aW (c : Dev nD) : FVec Ideal S16x16x3x768 .f32 := m ((c : Thread nD τ).loc main_arg2)
abbrev aB (c : Dev nD) : FVec Ideal S768 .f32 := m ((c : Thread nD τ).loc main_arg3)
abbrev aC (c : Dev nD) : FVec Ideal S1x1x768 .f32 := m ((c : Thread nD τ).loc main_arg4)
abbrev aP (c : Dev nD) : FVec Ideal S1x197x768 .f32 := m ((c : Thread nD τ).loc main_arg5)

/-! ## The arrays the windows read -/

theorem V_v14 (c : Dev nD) (b : Fin 64) (i : Fin 196) : V m c main_v14 (ix3 b 0 i) = aN m c (ix2 b i) := by
  show StableHlo.after hostOps0 (fun b => m (c, b)) (Proc.devRef .tc main_v14) _ = _
  after_results
  pointwise

theorem V_v15 (c : Dev nD) (b : Fin 64) (i : Fin 196) : V m c main_v15 (ix3 b i 0) = aN m c (ix2 b i) := by
  show StableHlo.after hostOps0 (fun b => m (c, b)) (Proc.devRef .tc main_v15) _ = _
  after_results
  pointwise

theorem V_v3 (c : Dev nD) (b : Fin 64) (p : Fin 196) (l : Fin 768) : V m c main_v3 (ix3 b p l) = patch (aX m c) b p l := by
  show StableHlo.after hostOps0 (fun b => m (c, b)) (Proc.devRef .tc main_v3) _ = _
  after_results
  pointwise
  rfl

theorem V_v5 (c : Dev nD) (l h : Fin 768) : V m c main_v5 (ix2 l h) = weight (aW m c) l h := by
  show StableHlo.after hostOps0 (fun b => m (c, b)) (Proc.devRef .tc main_v5) _ = _
  after_results
  pointwise
  rfl

theorem V_v8 (c : Dev nD) (p : Fin 196) (h : Fin 768) :
    V m c main_v8 (ix2 p h) = aP m c (ix3 0 ⟨1 + p.val, by omega⟩ h) := by
  show StableHlo.after hostOps0 (fun b => m (c, b)) (Proc.devRef .tc main_v8) _ = _
  after_results
  pointwise

theorem V_v13 (c : Dev nD) (h : Fin 768) : V m c main_v13 (ix2 0 h) = aB m c (ix1 h) := by
  show StableHlo.after hostOps0 (fun b => m (c, b)) (Proc.devRef .tc main_v13) _ = _
  after_results
  pointwise

theorem V_v11 (c : Dev nD) (h : Fin 768) : V m c main_v11 (ix2 0 h) = aC m c (ix3 0 0 h) := by
  show StableHlo.after hostOps0 (fun b => m (c, b)) (Proc.devRef .tc main_v11) _ = _
  after_results
  pointwise

theorem V_v10 (c : Dev nD) (h : Fin 768) : V m c main_v10 (ix2 0 h) = aP m c (ix3 0 0 h) := by
  show StableHlo.after hostOps0 (fun b => m (c, b)) (Proc.devRef .tc main_v10) _ = _
  after_results
  pointwise

/-! ## The blocks the body reads -/

/-- The batch row that row `s` of point `t`'s block is. -/
def bat (t : Fin cfg0.N) (s : Fin 4) : Fin 64 :=
  ⟨4 * t.val + s.val, by have ht : t.val < 16 := lt_of_lt_of_eq t.isLt N_0; omega⟩

theorem iblk0 (c : Dev nD) (t : Fin cfg0.N) (s : Fin 4) (i : Fin 196) :
    iblk m c 0 t (ix3 s 0 i) = aN m c (ix2 (bat t s) i) := by
  refine Eq.trans ?_ (V_v14 m c (bat t s) i)
  unfold bat
  blk_ext [iblk, idx t]

theorem iblk1 (c : Dev nD) (t : Fin cfg0.N) (s : Fin 4) (i : Fin 196) :
    iblk m c 1 t (ix3 s i 0) = aN m c (ix2 (bat t s) i) := by
  refine Eq.trans ?_ (V_v15 m c (bat t s) i)
  unfold bat
  blk_ext [iblk, idx t]

theorem iblk2 (c : Dev nD) (t : Fin cfg0.N) (s : Fin 4) (p : Fin 196) (l : Fin 768) :
    iblk m c 2 t (ix3 s p l) = patch (aX m c) (bat t s) p l := by
  refine Eq.trans ?_ (V_v3 m c (bat t s) p l)
  unfold bat
  blk_ext [iblk, idx t]

theorem iblk3 (c : Dev nD) (t : Fin cfg0.N) (l h : Fin 768) : iblk m c 3 t (ix2 l h) = weight (aW m c) l h := by
  refine Eq.trans ?_ (V_v5 m c l h)
  blk_ext [iblk, idx t]

theorem iblk4 (c : Dev nD) (t : Fin cfg0.N) (p : Fin 196) (h : Fin 768) :
    iblk m c 4 t (ix2 p h) = aP m c (ix3 0 ⟨1 + p.val, by omega⟩ h) := by
  refine Eq.trans ?_ (V_v8 m c p h)
  blk_ext [iblk, idx t]

theorem iblk5 (c : Dev nD) (t : Fin cfg0.N) (h : Fin 768) : iblk m c 5 t (ix2 0 h) = aB m c (ix1 h) := by
  refine Eq.trans ?_ (V_v13 m c h)
  blk_ext [iblk, idx t]

theorem iblk6 (c : Dev nD) (t : Fin cfg0.N) (h : Fin 768) : iblk m c 6 t (ix2 0 h) = aC m c (ix3 0 0 h) := by
  refine Eq.trans ?_ (V_v11 m c h)
  blk_ext [iblk, idx t]

theorem iblk7 (c : Dev nD) (t : Fin cfg0.N) (h : Fin 768) : iblk m c 7 t (ix2 0 h) = aP m c (ix3 0 0 h) := by
  refine Eq.trans ?_ (V_v10 m c h)
  blk_ext [iblk, idx t]

/-- The noise rows of the body's two windows agree. -/
theorem row_agree (c : Dev nD) (t : Fin cfg0.N) (s : Fin 4) (j : Fin 196) :
    iblk m c 1 t (ix3 s j 0) = iblk m c 0 t (ix3 s 0 j) := (iblk1 m c t s j).trans (iblk0 m c t s j).symm

theorem row_eq (c : Dev nD) (t : Fin cfg0.N) (s : Fin 4) :
    Cert.Block.row (iblk m c 0 t) s = nrow (aN m c) (bat t s) := by
  funext i
  exact iblk0 m c t s i

/-! ## The result arrays -/

theorem final10 (c : Dev nD) : (dats m 0 c).arrAt 10 (cfgs 0).N = fun i => ids (aN m c) (i 0) (i 2) := by
  refine (dats m 0 c).arrAt_eq_of_covers 10 _ (by decide +kernel) fun t _ y => ?_
  blk_simp
  rw [after0_10]
  frame_out
  obtain ⟨s, z, j, rfl⟩ : ∃ (s : Fin 4) (z : Fin 1) (j : Fin 196), y = ix3 s z j := ⟨y 0, y 1, y 2, by idx_ext⟩
  obtain rfl : z = 0 := Subsingleton.elim _ _
  refine (Cert.Block.pay2_at _ _ s j (row_agree m c t s)).trans ?_
  rw [row_eq m c t s]
  show ids _ _ _ = ids _ _ _
  refine congrArg₂ (ids (aN m c)) (Fin.ext ?_) (Fin.ext ?_)
  · show 4 * t.val + s.val = _
    blk_simp [idx t]
    omega
  · blk_simp [idx t]

theorem final9 (c : Dev nD) : (dats m 0 c).arrAt 9 (cfgs 0).N = fun i => mask (aN m c) (i 0) (i 2) := by
  refine (dats m 0 c).arrAt_eq_of_covers 9 _ (by decide +kernel) fun t _ y => ?_
  blk_simp
  rw [after0_9]
  frame_out
  obtain ⟨s, z, j, rfl⟩ : ∃ (s : Fin 4) (z : Fin 1) (j : Fin 196), y = ix3 s z j := ⟨y 0, y 1, y 2, by idx_ext⟩
  obtain rfl : z = 0 := Subsingleton.elim _ _
  refine (Cert.Block.pay3_at _ _ s j (row_agree m c t s)).trans ?_
  rw [row_eq m c t s]
  show mask _ _ _ = mask _ _ _
  refine congrArg₂ (mask (aN m c)) (Fin.ext ?_) (Fin.ext ?_)
  · show 4 * t.val + s.val = _
    blk_simp [idx t]
    omega
  · blk_simp [idx t]

end Cert.Arrays
-- ==== Proof.OutArray.lean ====
module

public import proofs.«01_k».proof.Proof.Arrays

@[expose] public section
set_option maxRecDepth 16384

noncomputable section

open Idealize.ShloMosaic Idealize.ShloMosaic.TcCoe Idealize.SL.Sem
open Idealize.ShloMosaic.Pipeline (Dat)
open Cert.KernelIdeal Cert.KernelIdeal.Gen
open Cert.Spec (sel nrow patch weight out mask ids)

namespace Cert.Arrays

variable (m : (ℓ : Loc nD τ sig) → Buf (Elt Ideal) ℓ)

/-- The 256 embedded rows the body computes at point `t`. -/
abbrev emb (c : Dev nD) (t : Fin cfg0.N) : FVec Ideal S256x768 .f32 :=
  k0_pay8 (k0_pay4 (iblk m c 0 t) (iblk m c 1 t)) (k0_pay5 (iblk m c 2 t)) (k0_pay6 (iblk m c 0 t) (iblk m c 1 t))
    (k0_pay7 (iblk m c 2 t)) (iblk m c 4 t) (iblk m c 5 t) (iblk m c 3 t)

/-- An embedded row is the specification's output row. -/
theorem emb_out (c : Dev nD) (t : Fin cfg0.N) (s : Fin 4) (k : Fin 50) (h : Fin 768) (a : Fin 256) (l : Fin 768)
    (hk : k.val ≠ 0) (h0 : a.val + 1 = 64 * s.val + k.val) (h1 : l.val = h.val) :
    emb m c t (ix2 a l) = out (aX m c) (aN m c) (aW m c) (aB m c) (aC m c) (aP m c) (bat t s) k h := by
  obtain rfl : l = h := Fin.ext h1
  have ha : a = ⟨64 * s.val + (k.val - 1), by omega⟩ := Fin.ext (by dsimp only; omega)
  rw [ha]
  refine (Cert.Block.emb_at _ _ _ _ _ _ s ⟨k.val - 1, by omega⟩ l (row_agree m c t s)
    (sel (nrow (aN m c) (bat t s)) ⟨k.val - 1, by omega⟩) fun p => ?_).trans ?_
  · rw [row_eq m c t s]
    exact Cert.Spec.rank_eq_iff_sel _ p ⟨k.val - 1, by omega⟩
  · unfold out
    rw [if_neg hk]
    refine congrArg₂ (· + ·) (Finset.sum_congr rfl fun n _ => congrArg₂ (· * ·) ?_ ?_) (congrArg₂ (· + ·) ?_ ?_)
    · exact iblk2 m c t s _ n
    · exact iblk3 m c t n l
    · exact iblk4 m c t _ l
    · exact iblk5 m c t l

/-- The class row is the specification's row zero. -/
theorem cls_out (c : Dev nD) (t : Fin cfg0.N) (s : Fin 4) (k : Fin 50) (h l : Fin 768)
    (hk : k.val = 0) (h1 : l.val = h.val) :
    k0_pay9 (iblk m c 6 t) (iblk m c 7 t) (ix2 0 l)
      = out (aX m c) (aN m c) (aW m c) (aB m c) (aC m c) (aP m c) (bat t s) k h := by
  obtain rfl : l = h := Fin.ext h1
  unfold out
  rw [if_pos hk]
  pointwise [k0_pay9]
  exact congrArg₂ (· + ·) (iblk6 m c t l) (iblk7 m c t l)

set_option maxHeartbeats 1600000 in
/-- What the body leaves at point `t` in the output block is the specification's rows of that block. -/
theorem point8 (c : Dev nD) (t : Fin cfg0.N) (s : Fin 4) (k : Fin 50) (h : Fin 768) :
    (outsAt0 m c t).1 (ix3 s k h)
      = out (aX m c) (aN m c) (aW m c) (aB m c) (aC m c) (aP m c) (bat t s) k h := by
  have hE := emb_out m c t s k h
  have hC := cls_out m c t s k h
  generalize out (aX m c) (aN m c) (aW m c) (aB m c) (aC m c) (aP m c) (bat t s) k h = v at hE hC ⊢
  unfold outsAt0
  frame_out
  unfold k0_pay10
  unfold emb at hE
  generalize k0_pay8 (k0_pay4 (iblk m c 0 t) (iblk m c 1 t)) (k0_pay5 (iblk m c 2 t)) (k0_pay6 (iblk m c 0 t) (iblk m c 1 t))
    (k0_pay7 (iblk m c 2 t)) (iblk m c 4 t) (iblk m c 5 t) (iblk m c 3 t) = E at hE ⊢
  generalize k0_pay9 (iblk m c 6 t) (iblk m c 7 t) = C at hC ⊢
  canon_tiles x hx using View.cover_of_tiledBy _ ![1, 1, 768] (by sl_kernel_rfl) _
  all_goals
    change s.val = _ at hx0
    change k.val = _ at hx1
    change h.val = _ at hx2
    pointwise [k0_pay11, k0_pay12, k0_pay13, k0_pay14, k0_pay15, k0_pay16, k0_pay17, k0_pay18]
    first
      | exact hC _ (by omega) hx2.symm
      | exact hE _ _ (by omega) (by dsimp only; omega) hx2.symm

theorem final8 (c : Dev nD) : (dats m 0 c).arrAt 8 (cfgs 0).N
    = fun i => out (aX m c) (aN m c) (aW m c) (aB m c) (aC m c) (aP m c) (i 0) (i 1) (i 2) := by
  refine (dats m 0 c).arrAt_eq_of_covers 8 _ (by decide +kernel) fun t _ y => ?_
  blk_simp
  rw [after0_8]
  obtain ⟨s, k, h, rfl⟩ : ∃ (s : Fin 4) (k : Fin 50) (h : Fin 768), y = ix3 s k h := ⟨y 0, y 1, y 2, by idx_ext⟩
  refine (point8 m c t s k h).trans ?_
  have hb : ∀ (b b' : Fin 64) (k k' : Fin 50) (h h' : Fin 768), b.val = b'.val → k.val = k'.val → h.val = h'.val →
      out (aX m c) (aN m c) (aW m c) (aB m c) (aC m c) (aP m c) b k h
        = out (aX m c) (aN m c) (aW m c) (aB m c) (aC m c) (aP m c) b' k' h' := by
    intro b b' k k' h h' e₁ e₂ e₃
    rw [Fin.ext e₁, Fin.ext e₂, Fin.ext e₃]
  refine hb _ _ _ _ _ _ ?_ ?_ ?_
  · show 4 * t.val + s.val = _
    blk_simp [idx t]
    omega
  · blk_simp [idx t]
  · blk_simp [idx t]

end Cert.Arrays
-- ==== Proof.KerValue.lean ====
module

public import proofs.«01_k».proof.Proof.OutArray

/-! The idealized kernel's three results as the specification's functions of the arguments. -/

@[expose] public section
set_option maxRecDepth 16384

noncomputable section

open Idealize.ShloMosaic Idealize.ShloMosaic.TcCoe Idealize.SL.Sem
open Idealize.ShloMosaic.Pipeline (Dat)
open Cert.KernelIdeal Cert.KernelIdeal.Gen
open Cert.Spec (sel nrow patch weight out mask ids)
open Cert.Arrays

namespace Cert.KerValue

variable (m : (ℓ : Loc nD τ sig) → Buf (Elt Ideal) ℓ)

/-- After the region a window's array holds what the library computes for it. -/
theorem region_arr (c : Dev nD) (w : Fin cfg0.W) :
    Pipeline.withArrays (cfgs 0).spec c (V0 m c) (fun w => (dats m 0 c).arrAt w (cfgs 0).N)
      (Proc.devRef .tc (Pipeline.arrRef (cfgs 0).spec w)) = (dats m 0 c).arrAt w (cfgs 0).N :=
  Pipeline.withArrays_arr (cfgs 0).spec (by decide) c _ _ w

/-- An array by its first and last coordinates, without its unit axis. -/
theorem drop_unit {α : Type} (f : Fin 64 → Fin 196 → α) :
    shapeCast S64x196 (fun i : S64x1x196.Idx => f (i 0) (i 2)) shapeCasts_S64x1x196_S64x196
      = fun i : S64x196.Idx => f (i 0) (i 1) := by
  funext i
  idx_vars i
  pointwise

/-- The mask result: the region's array without its unit axis. -/
theorem tail_mask (c : Dev nD) :
    Pipeline.afterTail₀ cfgs (dats m) 0 (V0 m) [hostOps1] c main_v17
      = fun i : S64x196.Idx => mask (aN m c) (i 0) (i 1) := by
  have h : Pipeline.withArrays (cfgs 0).spec c (V0 m c) (fun w => (dats m 0 c).arrAt w (cfgs 0).N) (Proc.devRef .tc main_v16_1)
      = fun i : S64x1x196.Idx => mask (aN m c) (i 0) (i 2) := (region_arr m c 9).trans (final9 m c)
  unfold Pipeline.afterTail₀
  generalize Pipeline.withArrays (cfgs 0).spec c (V0 m c) (fun w => (dats m 0 c).arrAt w (cfgs 0).N) = V at h ⊢
  show StableHlo.after hostOps1 V (Proc.devRef .tc main_v17) = _
  after_results
  exact (congrArg (fun A => shapeCast S64x196 A shapeCasts_S64x1x196_S64x196) h).trans (drop_unit _)

/-- The ids result: the region's array without its unit axis. -/
theorem tail_ids (c : Dev nD) :
    Pipeline.afterTail₀ cfgs (dats m) 0 (V0 m) [hostOps1] c main_v18
      = fun i : S64x196.Idx => ids (aN m c) (i 0) (i 1) := by
  have h : Pipeline.withArrays (cfgs 0).spec c (V0 m c) (fun w => (dats m 0 c).arrAt w (cfgs 0).N) (Proc.devRef .tc main_v16_2)
      = fun i : S64x1x196.Idx => ids (aN m c) (i 0) (i 2) := (region_arr m c 10).trans (final10 m c)
  unfold Pipeline.afterTail₀
  generalize Pipeline.withArrays (cfgs 0).spec c (V0 m c) (fun w => (dats m 0 c).arrAt w (cfgs 0).N) = V at h ⊢
  show StableHlo.after hostOps1 V (Proc.devRef .tc main_v18) = _
  after_results
  exact (congrArg (fun A => shapeCast S64x196 A shapeCasts_S64x1x196_S64x196) h).trans (drop_unit _)

/-- Every run of the idealized kernel ends with the specification's three arrays, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v16_0) = (fun i : S64x50x768.Idx =>
        out (aX m c) (aN m c) (aW m c) (aB m c) (aC m c) (aP m c) (i 0) (i 1) (i 2))
      ∧ r.2.mem ((c.tc : Thread nD τ).loc main_v17) = (fun i : S64x196.Idx => mask (aN m c) (i 0) (i 1))
      ∧ r.2.mem ((c.tc : Thread nD τ).loc main_v18) = (fun i : S64x196.Idx => ids (aN m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1 c).1 8).trans (final8 m c), ((h.1 c).2 main_v17 (by decide)).trans (tail_mask m c),
      ((h.1 c).2 main_v18 (by decide)).trans (tail_ids m c), h.2 c⟩)
    (θ_run_and (run_main m ρ) (unchanged m ρ))

end Cert.KerValue
-- ==== Proof.RefIds.lean ====
module

public import proofs.«01_k».proof.Proof.Gen.ReferenceIdeal.Run
public import proofs.«01_k».proof.Proof.Spec
public import Idealize.ShloMosaic.Lib.ReduceAll
public import Idealize.ShloMosaic.Lib.WordCmp

/-! The reference's two argsorts: the first gives the positions in stable order, the second gives every position
its rank. -/

@[expose] public section
set_option maxRecDepth 16384

noncomputable section

open Idealize.ShloMosaic Idealize.ShloMosaic.TcCoe Idealize.SL.Sem
open Cert.ReferenceIdeal Cert.ReferenceIdeal.Gen
open Cert.Spec (sel nrow patch weight out mask ids)

namespace Cert.RefIds

/-- The comparator of the first argsort orders by the float keys. -/
theorem comparator_float (l r : EReal × BitVec 32) :
    comparator_f32_i32_d1 (F := Ideal) l r = 1#1 ↔ l.1 < r.1 := by
  have hs : ∀ x : EReal,
      Scalar.select (FloatOps.cmpf (F := Ideal) (φ := .f32) .une x x) (FloatOps.ofBits (F := Ideal) .f32 0x7FC00000#32)
        (Scalar.select (FloatOps.cmpf (F := Ideal) (φ := .f32) .oeq x (FloatOps.ofBits (F := Ideal) .f32 0x00000000#32))
          (FloatOps.ofBits (F := Ideal) .f32 0x00000000#32) x) = x := by
    intro x
    by_cases h : x = (FloatOps.ofBits (F := Ideal) .f32 0x00000000#32 : EReal)
    · pointwise
      simp [h]
    · pointwise
      simp [h]
      exact Eq.symm
  show FloatOps.cmpfTotal (F := Ideal) (φ := .f32) .lt _ _ = 1#1 ↔ _
  rw [hs, hs]
  show BitVec.ofBool (decide (l.1 < r.1)) = 1#1 ↔ _
  by_cases h : l.1 < r.1 <;> simp [h]

/-- The positions in stable order of their keys. -/
def shuffle (nz : FVec Ideal S64x196 .f32) : IVec S64x196 32 :=
  (Host.sort2 S64x196 1 (comparator_f32_i32_d1 (F := Ideal)) nz (iotaInDim S64x196 32 1)).2

/-- The second argsort. -/
def restore (nz : FVec Ideal S64x196 .f32) : IVec S64x196 32 :=
  (Host.sort2 S64x196 1 comparator_i32_i32_d1 (shuffle nz) (iotaInDim S64x196 32 1)).2

theorem along_eq {B N : Nat} (b : Fin B) (k k' : Fin N) :
    (ix2 b k : (⟨2, ![B, N]⟩ : Shape).Idx).along 1 k' = ix2 b k' := by
  funext a
  match a with
  | ⟨0, _⟩ => rfl
  | ⟨1, _⟩ => rfl

/-- An argsort along the second axis at an index: the sorted position as a word. -/
theorem argsort_at {B N : Nat} {α : Type} (cmp : α × BitVec 32 → α × BitVec 32 → BitVec 1)
    (x : (⟨2, ![B, N]⟩ : Shape).Idx → α) (b : Fin B) (k : Fin N) :
    (Host.sort2 ⟨2, ![B, N]⟩ 1 cmp x (iotaInDim ⟨2, ![B, N]⟩ 32 1)).2 (ix2 b k)
      = BitVec.ofNat 32 (sortedFrom (fun i j : Fin N =>
          cmp (x (ix2 b i), BitVec.ofNat 32 i.val) (x (ix2 b j), BitVec.ofNat 32 j.val) == 1#1) k).val := by
  unfold Host.sort2
  rw [dif_pos (show 1 < 2 by decide)]
  show iotaInDim ⟨2, ![B, N]⟩ 32 1 ((ix2 b k : (⟨2, ![B, N]⟩ : Shape).Idx).along 1 (sortedFrom (fun i j : Fin N =>
    cmp (x ((ix2 b k : (⟨2, ![B, N]⟩ : Shape).Idx).along 1 i),
        iotaInDim ⟨2, ![B, N]⟩ 32 1 ((ix2 b k : (⟨2, ![B, N]⟩ : Shape).Idx).along 1 i))
      (x ((ix2 b k : (⟨2, ![B, N]⟩ : Shape).Idx).along 1 j),
        iotaInDim ⟨2, ![B, N]⟩ 32 1 ((ix2 b k : (⟨2, ![B, N]⟩ : Shape).Idx).along 1 j)) == 1#1) k)) = _
  simp only [along_eq]
  rfl

theorem shuffle_at (nz : FVec Ideal S64x196 .f32) (b : Fin 64) (k : Fin 196) :
    shuffle nz (ix2 b k) = BitVec.ofNat 32 (sel (nrow nz b) k).val := by
  unfold shuffle sel
  refine (argsort_at _ _ _ _).trans ?_
  rw [Cert.Rank.sortedFrom_lex (nrow nz b)]
  intro i j
  rw [beq_iff_eq]
  exact comparator_float _ _

/-- The comparator of the second argsort, on positions as words. -/
theorem comparator_word (i j : Fin 196) (u v : BitVec 32) :
    comparator_i32_i32_d1 (BitVec.ofNat 32 i.val, u) (BitVec.ofNat 32 j.val, v) = 1#1 ↔ i.val < j.val := by
  have hi := i.isLt
  have hj := j.isLt
  have h : IntOp.cmpi CmpIPredicate.slt (BitVec.ofNat 32 i.val) (BitVec.ofNat 32 j.val)
      = BitVec.ofBool (decide (i.val < j.val)) := by
    word_cmp
  show IntOp.cmpi CmpIPredicate.slt (BitVec.ofNat 32 i.val) (BitVec.ofNat 32 j.val) = 1#1 ↔ _
  rw [h]
  by_cases h' : i.val < j.val <;> simp [h']

theorem restore_at (nz : FVec Ideal S64x196 .f32) (b : Fin 64) (j : Fin 196) :
    restore nz (ix2 b j) = ids nz b j := by
  have hb : ∀ i j : Fin 196, decide (nrow nz b i < nrow nz b j) = true ↔ nrow nz b i < nrow nz b j :=
    fun i j => decide_eq_true_iff
  unfold restore ids
  refine (argsort_at _ _ _ _).trans (congrArg (BitVec.ofNat 32) ?_)
  refine Cert.Rank.sortedFrom_sortedFrom (nrow nz b) _ _ hb ?_ j
  intro i j
  rw [beq_iff_eq, shuffle_at, shuffle_at, Cert.Rank.sortedFrom_lex (nrow nz b) _ hb]
  exact comparator_word _ _ _ _

end Cert.RefIds
-- ==== Proof.RefTake.lean ====
module

public import proofs.«01_k».proof.Proof.RefIds

/-! The reference's two lookups of rows by index: the index, already in range, is neither wrapped nor filled, so each
lookup reads the operand at the row the index names. -/

@[expose] public section
set_option maxRecDepth 16384

noncomputable section

open Idealize.ShloMosaic Idealize.ShloMosaic.TcCoe Idealize.SL.Sem
open Cert.ReferenceIdeal Cert.ReferenceIdeal.Gen

namespace Cert.RefTake

/-- An index in range is not moved by the wrap of negative ones. -/
theorem wrap_word (v : Fin 196) (u : BitVec 32) :
    Scalar.select (IntOp.cmpi .slt (BitVec.ofNat 32 v.val) 0#32) u (BitVec.ofNat 32 v.val) = BitVec.ofNat 32 v.val := by
  revert v
  have h : ∀ v : Fin 196, IntOp.cmpi .slt (BitVec.ofNat 32 v.val) 0#32 = 0#1 := by decide +kernel
  intro v
  rw [h]
  rfl

/-- An index in range passes the bounds test. -/
theorem bound_word : ∀ v : Fin 196,
    IntOp.andi (IntOp.cmpi .sge (BitVec.ofNat 32 v.val) 0#32) (IntOp.cmpi .sle (BitVec.ofNat 32 v.val) 195#32) = 1#1 := by
  decide +kernel

theorem clamp_word : ∀ v : Fin 196, min (BitVec.ofNat 32 v.val).toInt.toNat 195 = v.val := by
  decide +kernel

/-! ## The lookup of the embedded rows -/

/-- The lookup of rows of `E` by the words `W`, as the reference spells it. -/
def wrapRows (W : IVec S64x49x1 32) : IVec S64x49x1 32 :=
  select (cmpi .slt W (broadcastInDim S64x49x1 ![] bcast_S_S64x49x1 (constantI S_ 32 0#32)))
    (addi W (broadcastInDim S64x49x1 ![] bcast_S_S64x49x1 (constantI S_ 32 196#32))) W

def boundRows (W : IVec S64x49x1 32) : IVec S64x49x1 1 :=
  andi (cmpi .sge W (broadcastInDim S64x49x1 ![] bcast_S_S64x49x1 (constantI S_ 32 0#32)))
    (cmpi .sle W (broadcastInDim S64x49x1 ![0, 1, 2] bcast_S1x1x1_S64x49x1_0_1_2
      (broadcastInDim S1x1x1 ![2] bcast_S1_S1x1x1_2 (constantI S1 32 195#32))))

def takeRows (E : FVec Ideal S64x196x768 .f32) (W : IVec S64x49x1 32) : FVec Ideal S64x49x768 .f32 :=
  select (broadcastInDim S64x49x768 ![0, 1] bcast_S64x49_S64x49x768_0_1
      (Host.reduce IntOp.andi (boundRows (wrapRows W)) (constantI S_ 1 1#1) reducesTo_S64x49x1_S64x49_d2 h_S_))
    (Host.gather gather_S64x196x768_S64x49x1_S64x49x768_2_1_0_0_1_2_11768 E (wrapRows W))
    (broadcastInDim S64x49x768 ![] bcast_S_S64x49x768 (constant (F := Ideal) S_ .f32 0x7FC00000#32))

theorem gatherRows_at (E : FVec Ideal S64x196x768 .f32) (W : IVec S64x49x1 32) (b : Fin 64) (k : Fin 49) (h : Fin 768)
    (v : Fin 196) (hv : W (ix3 b k 0) = BitVec.ofNat 32 v.val) :
    Host.gather gather_S64x196x768_S64x49x1_S64x49x768_2_1_0_0_1_2_11768 E W (ix3 b k h) = E (ix3 b v h) := by
  unfold Host.gather
  congr 1
  funext a
  refine Fin.ext ?_
  show GatherDims.start _ _ _ a + GatherDims.batchCoord _ _ a + GatherDims.offCoord _ _ a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (by decide)]
    unfold GatherDims.batchCoord
    rw [dif_pos (show (0 : Fin 3) ∈ gather_S64x196x768_S64x49x1_S64x49x768_2_1_0_0_1_2_11768.operandBatchingDims
      from List.mem_singleton.mpr rfl)]
    show 0 + b.val + 0 = b.val
    omega
  · rw [GatherDims.batchCoord_eq_zero _ _ _ (by decide), GatherDims.offCoord_eq_zero _ _ _ (by decide)]
    unfold GatherDims.start
    rw [dif_pos (show (1 : Fin 3) ∈ gather_S64x196x768_S64x49x1_S64x49x768_2_1_0_0_1_2_11768.startIndexMap
      from List.mem_singleton.mpr rfl)]
    have hs : ∀ l, GatherDims.siIdx gather_S64x196x768_S64x49x1_S64x49x768_2_1_0_0_1_2_11768 (ix3 b k h) l = ix3 b k 0 := by
      intro l
      funext e
      refine Fin.ext ?_
      match e with
      | ⟨0, _⟩ => rfl
      | ⟨1, _⟩ => rfl
      | ⟨2, _⟩ => exact Nat.lt_one_iff.mp (Fin.isLt _)
    rw [hs, hv]
    exact clamp_word v
  · rw [GatherDims.batchCoord_eq_zero _ _ _ (by decide)]
    unfold GatherDims.start GatherDims.offCoord
    rw [dif_neg (by decide), dif_pos (by decide)]
    show 0 + 0 + h.val = h.val
    omega

theorem wrapRows_eq (W : IVec S64x49x1 32) (f : Fin 64 → Fin 49 → Fin 196)
    (hW : ∀ b k, W (ix3 b k 0) = BitVec.ofNat 32 (f b k).val) : wrapRows W = W := by
  funext i
  idx_vars i
  obtain rfl : i2 = 0 := Subsingleton.elim _ _
  pointwise [wrapRows]
  rw [hW]
  exact wrap_word _ _

theorem takeRows_at (E : FVec Ideal S64x196x768 .f32) (W : IVec S64x49x1 32) (f : Fin 64 → Fin 49 → Fin 196)
    (hW : ∀ b k, W (ix3 b k 0) = BitVec.ofNat 32 (f b k).val) (b : Fin 64) (k : Fin 49) (h : Fin 768) :
    takeRows E W (ix3 b k h) = E (ix3 b (f b k) h) := by
  unfold takeRows
  rw [wrapRows_eq W f hW]
  have hr : ∀ j, Host.reduce IntOp.andi (boundRows W) (constantI S_ 1 1#1) reducesTo_S64x49x1_S64x49_d2 h_S_ j = 1#1 := by
    intro j
    refine Host.reduce_andi_one _ _ _ _ _ rfl fun i => ?_
    idx_vars i
    obtain rfl : i2 = 0 := Subsingleton.elim _ _
    pointwise [boundRows]
    rw [hW]
    exact bound_word _
  generalize Host.reduce IntOp.andi (boundRows W) (constantI S_ 1 1#1) reducesTo_S64x49x1_S64x49_d2 h_S_ = R at hr ⊢
  have hg := gatherRows_at E W b k h (f b k) (hW b k)
  generalize Host.gather gather_S64x196x768_S64x49x1_S64x49x768_2_1_0_0_1_2_11768 E W = G at hg ⊢
  pointwise
  rw [hr]
  exact hg

/-! ## The lookup of the mask -/

/-- The lookup of entries of `E` by the words `W`, as the reference spells it. -/
def wrapCols (W : IVec S64x196 32) : IVec S64x196 32 :=
  select (cmpi .slt W (broadcastInDim S64x196 ![] bcast_S_S64x196 (constantI S_ 32 0#32)))
    (addi W (broadcastInDim S64x196 ![] bcast_S_S64x196 (constantI S_ 32 196#32))) W

def boundCols (W : IVec S64x196x1 32) : IVec S64x196x1 1 :=
  andi (cmpi .sge W (broadcastInDim S64x196x1 ![] bcast_S_S64x196x1 (constantI S_ 32 0#32)))
    (cmpi .sle W (broadcastInDim S64x196x1 ![0, 1, 2] bcast_S1x1x1_S64x196x1_0_1_2
      (broadcastInDim S1x1x1 ![2] bcast_S1_S1x1x1_2 (constantI S1 32 195#32))))

def takeCols (E : FVec Ideal S64x196 .f32) (W : IVec S64x196 32) : FVec Ideal S64x196 .f32 :=
  select (Host.reduce IntOp.andi (boundCols (shapeCast _ (wrapCols W) shapeCasts_S64x196_S64x196x1))
      (constantI S_ 1 1#1) reducesTo_S64x196x1_S64x196_d2 h_S_)
    (Host.gather gather_S64x196_S64x196x1_S64x196_n_1_0_0_1_2_11 E (shapeCast _ (wrapCols W) shapeCasts_S64x196_S64x196x1))
    (broadcastInDim S64x196 ![] bcast_S_S64x196 (constant (F := Ideal) S_ .f32 0x7FC00000#32))

theorem gatherCols_at (E : FVec Ideal S64x196 .f32) (W : IVec S64x196x1 32) (b : Fin 64) (j : Fin 196)
    (v : Fin 196) (hv : W (ix3 b j 0) = BitVec.ofNat 32 v.val) :
    Host.gather gather_S64x196_S64x196x1_S64x196_n_1_0_0_1_2_11 E W (ix2 b j) = E (ix2 b v) := by
  unfold Host.gather
  congr 1
  funext a
  refine Fin.ext ?_
  show GatherDims.start _ _ _ a + GatherDims.batchCoord _ _ a + GatherDims.offCoord _ _ a = _
  have ha : a = (0 : Fin 2) ∨ a = (1 : Fin 2) := by
    match a with
    | ⟨0, _⟩ => exact Or.inl rfl
    | ⟨1, _⟩ => exact Or.inr rfl
  rcases ha with rfl | rfl
  · rw [GatherDims.start_batching _ _ _ _ (List.mem_singleton.mpr rfl),
      GatherDims.offCoord_eq_zero _ _ _ (by decide)]
    unfold GatherDims.batchCoord
    rw [dif_pos (show (0 : Fin 2) ∈ gather_S64x196_S64x196x1_S64x196_n_1_0_0_1_2_11.operandBatchingDims from List.mem_singleton.mpr rfl)]
    show 0 + b.val + 0 = b.val
    omega
  · rw [GatherDims.batchCoord_eq_zero _ _ _ (by decide), GatherDims.offCoord_eq_zero _ _ _ (by decide)]
    unfold GatherDims.start
    rw [dif_pos (show (1 : Fin 2) ∈ gather_S64x196_S64x196x1_S64x196_n_1_0_0_1_2_11.startIndexMap from List.mem_singleton.mpr rfl)]
    have hs : ∀ l, GatherDims.siIdx gather_S64x196_S64x196x1_S64x196_n_1_0_0_1_2_11 (ix2 b j) l = ix3 b j 0 := by
      intro l
      funext e
      refine Fin.ext ?_
      match e with
      | ⟨0, _⟩ => rfl
      | ⟨1, _⟩ => rfl
      | ⟨2, _⟩ => exact Nat.lt_one_iff.mp (Fin.isLt _)
    rw [hs, hv]
    exact clamp_word v

theorem wrapCols_eq (W : IVec S64x196 32) (f : Fin 64 → Fin 196 → Fin 196)
    (hW : ∀ b j, W (ix2 b j) = BitVec.ofNat 32 (f b j).val) : wrapCols W = W := by
  funext i
  idx_vars i
  pointwise [wrapCols]
  rw [hW]
  exact wrap_word _ _

theorem takeCols_at (E : FVec Ideal S64x196 .f32) (W : IVec S64x196 32) (f : Fin 64 → Fin 196 → Fin 196)
    (hW : ∀ b j, W (ix2 b j) = BitVec.ofNat 32 (f b j).val) (b : Fin 64) (j : Fin 196) :
    takeCols E W (ix2 b j) = E (ix2 b (f b j)) := by
  unfold takeCols
  rw [wrapCols_eq W f hW]
  have hC : ∀ b j, shapeCast S64x196x1 W shapeCasts_S64x196_S64x196x1 (ix3 b j 0) = BitVec.ofNat 32 (f b j).val := by
    intro b j
    pointwise
    exact hW b j
  generalize shapeCast S64x196x1 W shapeCasts_S64x196_S64x196x1 = C at hC ⊢
  have hr : ∀ j, Host.reduce IntOp.andi (boundCols C) (constantI S_ 1 1#1) reducesTo_S64x196x1_S64x196_d2 h_S_ j = 1#1 := by
    intro j
    refine Host.reduce_andi_one _ _ _ _ _ rfl fun i => ?_
    idx_vars i
    obtain rfl : i2 = 0 := Subsingleton.elim _ _
    pointwise [boundCols]
    rw [hC]
    exact bound_word _
  generalize Host.reduce IntOp.andi (boundCols C) (constantI S_ 1 1#1) reducesTo_S64x196x1_S64x196_d2 h_S_ = R at hr ⊢
  have hg := gatherCols_at E C b j (f b j) (hC b j)
  generalize Host.gather gather_S64x196_S64x196x1_S64x196_n_1_0_0_1_2_11 E C = G at hg ⊢
  pointwise
  rw [hr]
  exact hg

end Cert.RefTake
-- ==== Proof.RefValue.lean ====
module

public import proofs.«01_k».proof.Proof.RefTake

/-! The reference's three results as the specification's functions of the arguments. -/

@[expose] public section
set_option maxRecDepth 16384

noncomputable section

open Idealize.ShloMosaic Idealize.ShloMosaic.TcCoe Idealize.SL.Sem
open Cert.ReferenceIdeal Cert.ReferenceIdeal.Gen
open Cert.Spec (sel nrow patch weight out mask ids)
open Cert.RefIds (shuffle restore shuffle_at restore_at)
open Cert.RefTake (takeRows takeCols takeRows_at takeCols_at)

namespace Cert.RefValue

/-! ## The mask -/

/-- Ones after the first 49 zeros. -/
def flags : FVec Ideal S64x196 .f32 :=
  concatenate S64x196 1 [⟨S64x49, broadcastInDim S64x49 ![] bcast_S_S64x49 (constant (F := Ideal) S_ .f32 0x00000000#32)⟩,
    ⟨S64x147, broadcastInDim S64x147 ![] bcast_S_S64x147 (constant (F := Ideal) S_ .f32 0x3F800000#32)⟩]
    concatenates_S64x49_S64x147_S64x196_d1

theorem flags_at (b : Fin 64) (j : Fin 196) : flags (ix2 b j) = if j.val < 49 then 0 else 1 := by
  pointwise [flags]
  by_cases hj : j.val < 49 <;> simp [hj]

theorem mask_at (nz : FVec Ideal S64x196 .f32) (b : Fin 64) (j : Fin 196) :
    takeCols flags (restore nz) (ix2 b j) = mask nz b j := by
  refine (takeCols_at flags (restore nz) (fun b j => ⟨Cert.Rank.rank (nrow nz b) j, Cert.Rank.rank_lt _ _⟩) ?_ b j).trans ?_
  · exact fun b j => restore_at nz b j
  · exact flags_at b _

/-! ## The embedded rows -/

/-- Every embedded row of every image, with bias and position added. -/
def embAll (X : FVec Ideal S64x3x224x224 .f32) (W : FVec Ideal S16x16x3x768 .f32) (bias : FVec Ideal S768 .f32)
    (pos : FVec Ideal S1x197x768 .f32) : FVec Ideal S64x196x768 .f32 :=
  addf (addf (Host.dotGeneral dot_S64x196x768_S768x768_S64x196x768_2_0_01_1_n_n none
      (shapeCast S64x196x768 (transpose S64x14x14x16x16x3 [0, 1, 3, 2, 4, 5]
        (shapeCast S64x14x16x14x16x3 (transpose S64x224x224x3 [0, 2, 3, 1] X transposes_S64x3x224x224_S64x224x224x3_0_2_3_1)
          shapeCasts_S64x224x224x3_S64x14x16x14x16x3)
        transposes_S64x14x16x14x16x3_S64x14x14x16x16x3_0_1_3_2_4_5) shapeCasts_S64x14x14x16x16x3_S64x196x768)
      (shapeCast S768x768 W shapeCasts_S16x16x3x768_S768x768))
    (broadcastInDim S64x196x768 ![0, 1, 2] bcast_S1x1x768_S64x196x768_0_1_2
      (broadcastInDim S1x1x768 ![2] bcast_S768_S1x1x768_2 bias)))
    (broadcastInDim S64x196x768 ![0, 1, 2] bcast_S1x196x768_S64x196x768_0_1_2
      (extractStridedSlice S1x196x768 ![0, 1, 0] pos slices_S1x197x768_S1x196x768_0_1_0))

theorem embAll_at (X : FVec Ideal S64x3x224x224 .f32) (W : FVec Ideal S16x16x3x768 .f32) (bias : FVec Ideal S768 .f32)
    (pos : FVec Ideal S1x197x768 .f32) (b : Fin 64) (p : Fin 196) (h : Fin 768) :
    embAll X W bias pos (ix3 b p h)
      = (∑ c : Fin 768, patch X b p c * weight W c h) + (pos (ix3 0 ⟨1 + p.val, by omega⟩ h) + bias (ix1 h)) := by
  pointwise [embAll]
  rw [add_assoc, add_comm (bias _)]
  rfl

/-! ## The output -/

/-- The kept positions as words, the first 49 of the shuffle. -/
def kept (nz : FVec Ideal S64x196 .f32) : IVec S64x49x1 32 :=
  broadcastInDim S64x49x1 ![0, 1] bcast_S64x49_S64x49x1_0_1
    (extractStridedSlice S64x49 ![0, 0] (shuffle nz) slices_S64x196_S64x49_0_0)

theorem kept_at (nz : FVec Ideal S64x196 .f32) (b : Fin 64) (k : Fin 49) :
    kept nz (ix3 b k 0) = BitVec.ofNat 32 (sel (nrow nz b) ⟨k.val, by omega⟩).val := by
  have h := shuffle_at nz b ⟨k.val, by omega⟩
  unfold kept
  generalize shuffle nz = S at h ⊢
  pointwise
  exact h

/-- The class row of every image. -/
def clsAll (cls : FVec Ideal S1x1x768 .f32) (pos : FVec Ideal S1x197x768 .f32) : FVec Ideal S64x1x768 .f32 :=
  shapeCast S64x1x768 (broadcastInDim S64x1x1x1x1x768 ![0, 1, 2, 3, 4, 5] bcast_S1x1x1x1x1x768_S64x1x1x1x1x768_0_1_2_3_4_5
    (shapeCast S1x1x1x1x1x768 (addf cls (extractStridedSlice S1x1x768 ![0, 0, 0] pos slices_S1x197x768_S1x1x768_0_0_0))
      shapeCasts_S1x1x768_S1x1x1x1x1x768)) shapeCasts_S64x1x1x1x1x768_S64x1x768

theorem clsAll_at (cls : FVec Ideal S1x1x768 .f32) (pos : FVec Ideal S1x197x768 .f32) (b : Fin 64) (h : Fin 768) :
    clsAll cls pos (ix3 b 0 h) = cls (ix3 0 0 h) + pos (ix3 0 0 h) := by
  pointwise [clsAll]

theorem out_at (X : FVec Ideal S64x3x224x224 .f32) (nz : FVec Ideal S64x196 .f32) (W : FVec Ideal S16x16x3x768 .f32)
    (bias : FVec Ideal S768 .f32) (cls : FVec Ideal S1x1x768 .f32) (pos : FVec Ideal S1x197x768 .f32)
    (b : Fin 64) (k : Fin 50) (h : Fin 768) :
    concatenate S64x50x768 1 [⟨S64x1x768, clsAll cls pos⟩, ⟨S64x49x768, takeRows (embAll X W bias pos) (kept nz)⟩]
        concatenates_S64x1x768_S64x49x768_S64x50x768_d1 (ix3 b k h)
      = out X nz W bias cls pos b k h := by
  have hA := clsAll_at cls pos b h
  have hT := fun k => takeRows_at (embAll X W bias pos) (kept nz) (fun b k => sel (nrow nz b) ⟨k.val, by omega⟩)
    (kept_at nz) b k h
  simp only [embAll_at] at hT
  unfold out
  generalize clsAll cls pos = A at hA ⊢
  generalize takeRows (embAll X W bias pos) (kept nz) = T at hT ⊢
  by_cases hk : k.val = 0
  · rw [if_pos hk, ← hA]
    pointwise
    rw [dif_pos (by omega)]
    exact congrArg (fun z => A (ix3 b z h)) (Fin.ext hk)
  · rw [if_neg hk, ← hT ⟨k.val - 1, by omega⟩]
    pointwise
    exact dif_neg (by omega)

/-! ## The run's terms -/

variable (m : (ℓ : Loc nD τ sig) → Buf (Elt Ideal) ℓ)

theorem res_out (c : Dev nD) :
    Cert.ReferenceIdeal.Value.res_out0 m c = fun i : S64x50x768.Idx =>
      out (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) (i 0) (i 1) (i 2) := by
  funext i
  refine Eq.trans ?_ ((congrArg _ (eq_ix3 i)).trans (out_at _ _ _ _ _ _ (i 0) (i 1) (i 2)))
  rfl

theorem res_mask (c : Dev nD) :
    takeCols flags (restore (m ((c.tc : Thread nD τ).loc main_arg1))) = fun i : S64x196.Idx =>
      mask (m ((c.tc : Thread nD τ).loc main_arg1)) (i 0) (i 1) := by
  funext i
  exact (congrArg _ (eq_ix2 i)).trans (mask_at _ (i 0) (i 1))

theorem res_ids (c : Dev nD) :
    restore (m ((c.tc : Thread nD τ).loc main_arg1)) = fun i : S64x196.Idx =>
      ids (m ((c.tc : Thread nD τ).loc main_arg1)) (i 0) (i 1) := by
  funext i
  exact (congrArg _ (eq_ix2 i)).trans (restore_at _ (i 0) (i 1))

/-- Every run of the reference ends with the specification's three arrays, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v26) = (fun i : S64x50x768.Idx =>
        out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) (i 0) (i 1) (i 2))
      ∧ r.2.mem ((c.tc : Thread nD τ).loc main_v20) = (fun i : S64x196.Idx =>
        mask (m ((c.tc : Thread nD τ).loc main_arg1)) (i 0) (i 1))
      ∧ r.2.mem ((c.tc : Thread nD τ).loc main_v13) = (fun i : S64x196.Idx =>
        ids (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans (res_out m c), (h c).2.1.trans (res_mask m c), (h c).2.2.1.trans (res_ids m c), (h c).2.2.2⟩)
    (Cert.ReferenceIdeal.Value.run m ρ)

end Cert.RefValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KerValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The two programs compute the same three arrays from equal arguments. -/
theorem algebraic : Cert.algebraic_KernelIdeal_ReferenceIdeal := by
  intro m g m' g' _ hagree
  refine ⟨_, _, _, Cert.KerValue.run_spec m g, ?_⟩
  refine (θ_run _ _ _).mono (fun r h c => ?_) (Cert.RefValue.run_spec m' g')
  obtain ⟨h0, h1, h2, hargs⟩ := h c
  obtain ⟨e0, e1, e2, e3, e4, e5⟩ := hagree c
  refine ⟨h0.trans ?_, h1.trans ?_, h2.trans ?_, hargs⟩
  · rw [e0, e1, e2, e3, e4, e5]
  · rw [e1]
  · rw [e1]

/-- The reference ends with its arguments unchanged and every counter at zero. -/
theorem frame_reference : Cert.quiescent_ReferenceIdeal := by
  intro m ρ _
  refine (θ_run _ _ _).mono (fun r h => ⟨fun c => (h c).2.2.2, ?_⟩) (Cert.ReferenceIdeal.Value.run m ρ)
  exact Idealize.ShloMosaic.sem_eq_zero_of_no_sems (by decide) _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
